-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_set_up [hPre_as_set_up : Cert.Pre_as_set_up.Facts] (m : (ℓ : Loc Cert.KernelIdeal.nD Cert.KernelIdeal.τ Cert.KernelIdeal.sig) → Buf (Elt Ideal) ℓ) : Prop :=
  ∀ c : Dev Cert.KernelIdeal.nD,
    (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_set_up [hPre_as_set_up : Cert.Pre_as_set_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_as_set_up [hKernelIdeal : Cert.KernelIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_set_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_as_set_up [hReferenceIdeal : Cert.ReferenceIdeal.Facts] [hPre_as_set_up : Cert.Pre_as_set_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_set_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_as_set_up [hKernelIdeal : Cert.KernelIdeal.Facts] [hReferenceIdeal : Cert.ReferenceIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_set_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_as_set_up : Cert.Pre_as_set_up.Facts),
    quiescent_Kernel (hKernel := hKernel)
    ∧ quiescent_KernelIdeal (hKernelIdeal := hKernelIdeal)
    ∧ quiescent_KernelIdeal_pre_as_set_up (hKernelIdeal := hKernelIdeal) (hPre_as_set_up := hPre_as_set_up)
    ∧ quiescent_ReferenceIdeal (hReferenceIdeal := hReferenceIdeal)
    ∧ quiescent_ReferenceIdeal_pre_as_set_up (hReferenceIdeal := hReferenceIdeal) (hPre_as_set_up := hPre_as_set_up)
    ∧ preserves_Kernel_KernelIdeal
    ∧ algebraic_KernelIdeal_ReferenceIdeal_pre_as_set_up (hKernelIdeal := hKernelIdeal) (hReferenceIdeal := hReferenceIdeal) (hPre_as_set_up := hPre_as_set_up)
-- ==== Pre_as_set_up.lean ====
abbrev S4x9509x1024 : Shape := ⟨3, ![4, 9509, 1024]⟩
abbrev S1x9509x1024 : Shape := ⟨3, ![1, 9509, 1024]⟩
abbrev S16x1024 : Shape := ⟨2, ![16, 1024]⟩
abbrev S9472 : Shape := ⟨1, ![9472]⟩
abbrev S_ : Shape := ⟨0, ![]⟩

class Facts : Prop where
  bcast_S_S9472 : S_.BroadcastsInDim S9472 (![] : Fin 0 → Fin S9472.rank)

variable [Facts]

def fn_where {F : FTy → Type} [FloatOps F] (arg0 : IVec S9472 1) (arg1 : IVec S9472 32) (arg2 : IVec S9472 32) : IVec S9472 32 :=
  let v0 : IVec S9472 32 := select arg0 arg1 arg2
  v0

def fn_floor_divide {F : FTy → Type} [FloatOps F] (arg0 : IVec S9472 32) (arg1 : IVec S_ 32) : IVec S9472 32 :=
  let v0 : IVec S_ 32 := id arg1
  let v1 : IVec S9472 32 := broadcastInDim S9472 ![] bcast_S_S9472 v0
  let v2 : IVec S9472 32 := Host.divsi arg0 v1
  let v3 : IVec S9472 32 := signi arg0
  let v4 : IVec S_ 32 := signi v0
  let v5 : IVec S9472 32 := broadcastInDim S9472 ![] bcast_S_S9472 v4
  let v6 : IVec S9472 1 := cmpi .ne v3 v5
  let v7 : IVec S9472 32 := broadcastInDim S9472 ![] bcast_S_S9472 v0
  let v8 : IVec S9472 32 := Host.remsi arg0 v7
  let c : IVec S_ 32 := constantI S_ 32 0#32
  let v9 : IVec S9472 32 := broadcastInDim S9472 ![] bcast_S_S9472 c
  let v10 : IVec S9472 1 := cmpi .ne v8 v9
  let v11 : IVec S9472 1 := andi v6 v10
  let c_0 : IVec S_ 32 := constantI S_ 32 1#32
  let v12 : IVec S9472 32 := broadcastInDim S9472 ![] bcast_S_S9472 c_0
  let v13 : IVec S9472 32 := subi v2 v12
  let v14 : IVec S9472 32 := fn_where (F := F) v11 v13 v2
  v14

def fn {F : FTy → Type} [FloatOps F] (main_arg0 : FVec F S4x9509x1024 .f32) (main_arg1 : FVec F S1x9509x1024 .f32) (main_arg2 : FVec F S16x1024 .f32) (main_arg3 : FVec F S16x1024 .f32) (main_arg4 : IVec S9472 32) : IVec S9472 1 :=
  let main_v0 : IVec S9472 32 := iotaInDim S9472 32 0
  let main_c : IVec S_ 32 := constantI S_ 32 256#32
  let main_v1 : IVec S9472 32 := fn_floor_divide (F := F) main_v0 main_c
  let main_v2 : IVec S9472 32 := addi main_v0 main_v1
  let main_v3 : IVec S9472 1 := cmpi .eq main_arg4 main_v2
  main_v3
-- ==== Kernel.lean ====
abbrev S4x9509x1024 : Shape := ⟨3, ![4, 9509, 1024]⟩
abbrev S1x9509x1024 : Shape := ⟨3, ![1, 9509, 1024]⟩
abbrev S16x1024 : Shape := ⟨2, ![16, 1024]⟩
abbrev S9472 : Shape := ⟨1, ![9472]⟩
abbrev S9509x4x1024 : Shape := ⟨3, ![9509, 4, 1024]⟩
abbrev S9509x1x1024 : Shape := ⟨3, ![9509, 1, 1024]⟩
abbrev S771x4x1024 : Shape := ⟨3, ![771, 4, 1024]⟩
abbrev S771x1x1024 : Shape := ⟨3, ![771, 1, 1024]⟩
abbrev S257x1024 : Shape := ⟨2, ![257, 1024]⟩
abbrev S16x1x1024 : Shape := ⟨3, ![16, 1, 1024]⟩
abbrev S1x16x1024 : Shape := ⟨3, ![1, 16, 1024]⟩
abbrev S16x16x1024 : Shape := ⟨3, ![16, 16, 1024]⟩
abbrev S256x1024 : Shape := ⟨2, ![256, 1024]⟩
abbrev S1x1024 : Shape := ⟨2, ![1, 1024]⟩
abbrev S257x1x1024 : Shape := ⟨3, ![257, 1, 1024]⟩
abbrev S257x4x1024 : Shape := ⟨3, ![257, 4, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4x9509x1024, .f32⟩
  | .hbm, ⟨1, _⟩ => ⟨S1x9509x1024, .f32⟩
  | .hbm, ⟨2, _⟩ => ⟨S16x1024, .f32⟩
  | .hbm, ⟨3, _⟩ => ⟨S16x1024, .f32⟩
  | .hbm, ⟨4, _⟩ => ⟨S9472, .i32⟩
  | .hbm, ⟨5, _⟩ => ⟨S9509x4x1024, .f32⟩
  | .hbm, ⟨6, _⟩ => ⟨S9509x1x1024, .f32⟩
  | .hbm, ⟨7, _⟩ => ⟨S9509x4x1024, .f32⟩
  | .hbm, ⟨8, _⟩ => ⟨S4x9509x1024, .f32⟩
  | .local _ .vmem, ⟨0, _⟩ => ⟨S771x4x1024, .f32⟩
  | .local _ .vmem, ⟨1, _⟩ => ⟨S771x4x1024, .f32⟩
  | .local _ .vmem, ⟨2, _⟩ => ⟨S771x1x1024, .f32⟩
  | .local _ .vmem, ⟨3, _⟩ => ⟨S771x1x1024, .f32⟩
  | .local _ .vmem, ⟨4, _⟩ => ⟨S16x1024, .f32⟩
  | .local _ .vmem, ⟨5, _⟩ => ⟨S16x1024, .f32⟩
  | .local _ .vmem, ⟨6, _⟩ => ⟨S771x4x1024, .f32⟩
  | .local _ .vmem, ⟨7, _⟩ => ⟨S771x4x1024, .f32⟩
  | .local _ .vmem, ⟨8, _⟩ => ⟨S257x1024, .f32⟩
  | _, _ => ⟨S4x9509x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S771x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S771x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S771x4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x9509x1024 : Shape := ⟨3, ![4, 9509, 1024]⟩
abbrev S1x9509x1024 : Shape := ⟨3, ![1, 9509, 1024]⟩
abbrev S16x1024 : Shape := ⟨2, ![16, 1024]⟩
abbrev S9472 : Shape := ⟨1, ![9472]⟩
abbrev S16 : Shape := ⟨1, ![16]⟩
abbrev S16x16 : Shape := ⟨2, ![16, 16]⟩
abbrev S256 : Shape := ⟨1, ![256]⟩
abbrev S1x16 : Shape := ⟨2, ![1, 16]⟩
abbrev S_ : Shape := ⟨0, ![]⟩
abbrev S256x1 : Shape := ⟨2, ![256, 1]⟩
abbrev S256x1024 : Shape := ⟨2, ![256, 1024]⟩
abbrev S1x256x1x1024 : Shape := ⟨4, ![1, 256, 1, 1024]⟩
abbrev S37x256x1x1024 : Shape := ⟨4, ![37, 256, 1, 1024]⟩
abbrev S9472x1024 : Shape := ⟨2, ![9472, 1024]⟩
abbrev S9509x1024 : Shape := ⟨2, ![9509, 1024]⟩
abbrev S9472x1 : Shape := ⟨2, ![9472, 1]⟩

abbrev nBuf : Space → Nat
  | .hbm => 50
  | .vmem => 0
  | .smem => 0
  | _ => 0

abbrev bufTy : (tb : Table) → Fin (tcTables nBuf tb) → BufTy
  | .hbm, ⟨0, _⟩ => ⟨S4x9509x1024, .f32⟩
  | .hbm, ⟨1, _⟩ => ⟨S1x9509x1024, .f32⟩
  | .hbm, ⟨2, _⟩ => ⟨S16x1024, .f32⟩
  | .hbm, ⟨3, _⟩ => ⟨S16x1024, .f32⟩
  | .hbm, ⟨4, _⟩ => ⟨S9472, .i32⟩
  | .hbm, ⟨5, _⟩ => ⟨S16, .i32⟩
  | .hbm, ⟨6, _⟩ => ⟨S16x16, .i32⟩
  | .hbm, ⟨7, _⟩ => ⟨S256, .i32⟩
  | .hbm, ⟨8, _⟩ => ⟨S16, .i32⟩
  | .hbm, ⟨9, _⟩ => ⟨S1x16, .i32⟩
  | .hbm, ⟨10, _⟩ => ⟨S16x16, .i32⟩
  | .hbm, ⟨11, _⟩ => ⟨S256, .i32⟩
  | .hbm, ⟨12, _⟩ => ⟨S_, .i32⟩
  | .hbm, ⟨13, _⟩ => ⟨S256, .i32⟩
  | .hbm, ⟨14, _⟩ => ⟨S256, .i1⟩
  | .hbm, ⟨15, _⟩ => ⟨S_, .i32⟩
  | .hbm, ⟨16, _⟩ => ⟨S256, .i32⟩
  | .hbm, ⟨17, _⟩ => ⟨S256, .i32⟩
  | .hbm, ⟨18, _⟩ => ⟨S256, .i32⟩
  | .hbm, ⟨19, _⟩ => ⟨S256x1, .i32⟩
  | .hbm, ⟨20, _⟩ => ⟨S256x1024, .f32⟩
  | .hbm, ⟨21, _⟩ => ⟨S_, .i32⟩
  | .hbm, ⟨22, _⟩ => ⟨S256, .i32⟩
  | .hbm, ⟨23, _⟩ => ⟨S256, .i1⟩
  | .hbm, ⟨24, _⟩ => ⟨S_, .i32⟩
  | .hbm, ⟨25, _⟩ => ⟨S256, .i32⟩
  | .hbm, ⟨26, _⟩ => ⟨S256, .i32⟩
  | .hbm, ⟨27, _⟩ => ⟨S256, .i32⟩
  | .hbm, ⟨28, _⟩ => ⟨S256x1, .i32⟩
  | .hbm, ⟨29, _⟩ => ⟨S256x1024, .f32⟩
  | .hbm, ⟨30, _⟩ => ⟨S256x1024, .f32⟩
  | .hbm, ⟨31, _⟩ => ⟨S1x256x1x1024, .f32⟩
  | .hbm, ⟨32, _⟩ => ⟨S37x256x1x1024, .f32⟩
  | .hbm, ⟨33, _⟩ => ⟨S9472x1024, .f32⟩
  | .hbm, ⟨34, _⟩ => ⟨S_, .f32⟩
  | .hbm, ⟨35, _⟩ => ⟨S9509x1024, .f32⟩
  | .hbm, ⟨36, _⟩ => ⟨S_, .i32⟩
  | .hbm, ⟨37, _⟩ => ⟨S9472, .i32⟩
  | .hbm, ⟨38, _⟩ => ⟨S9472, .i1⟩
  | .hbm, ⟨39, _⟩ => ⟨S_, .i32⟩
  | .hbm, ⟨40, _⟩ => ⟨S9472, .i32⟩
  | .hbm, ⟨41, _⟩ => ⟨S9472, .i32⟩
  | .hbm, ⟨42, _⟩ => ⟨S9472, .i32⟩
  | .hbm, ⟨43, _⟩ => ⟨S9472x1, .i32⟩
  | .hbm, ⟨44, _⟩ => ⟨S9509x1024, .f32⟩
  | .hbm, ⟨45, _⟩ => ⟨S1x9509x1024, .f32⟩
  | .hbm, ⟨46, _⟩ => ⟨S4x9509x1024, .f32⟩
  | .hbm, ⟨47, _⟩ => ⟨S4x9509x1024, .f32⟩
  | .hbm, ⟨48, _⟩ => ⟨S4x9509x1024, .f32⟩
  | .hbm, ⟨49, _⟩ => ⟨S4x9509x1024, .f32⟩
  | _, _ => ⟨S4x9509x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_c_3 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Proof.KernelIdeal.Block.lean ====
/-
  What one block of the kernel computes, as functions of what the buffers hold, index by index.

  `gridRows r q` is the 257-row table the body keeps in its scratch buffer: row `n` below 256 is the row encoding
  `r[n / 16]` plus the column encoding `q[n % 16]`, row 256 (the separator of a page) is zero.
  `sumBlock x p g` is the block the body writes: element `(n, b, l)` is `x[n, b, l] + (p[n, 0, l] + g[n % 257, l])`,
  three pages of 257 rows, one store each.

  `pay_grid`, `pay_sum` read the stored values at an index; `read_grid` and `read_sum` put the stores of one buffer
  together: the two stores of the scratch buffer leave `gridRows`, the three stores of the result's buffer leave
  `sumBlock`, whatever the buffers held before.
-/
module

public import proofs.«01_k».proof.Proof.Gen.KernelIdeal.Skeleton
public import proofs.«01_k».proof.Proof.Gen.KernelIdeal.Launch
public import Idealize.ShloMosaic.Lib.Pipeline.FrameBody
public import Idealize.ShloMosaic.Lib.Pipeline.Value
public import Idealize.ShloMosaic.Lib.ValueIdxCore
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.ValueIdx Idealize.SL.Sem

variable {F : FTy → Type} [FloatOps F]

/-! ## The two functions -/

/-- The page table: the grid encodings in rows 0 to 255, zeros in row 256. -/
def gridRows (r q : S16x1024.Idx → F .f32) : S257x1024.Idx → F .f32 := fun y =>
  if h : (y 0).val < 256 then
    FloatOps.addf (r (ix2 (⟨(y 0).val / 16, by omega⟩ : Fin 16) (y 1)))
      (q (ix2 (⟨(y 0).val % 16, by omega⟩ : Fin 16) (y 1)))
  else Scalar.ofBits .f32 0#32

/-- The block written: the input block plus, on every batch, the position encodings plus the page table. -/
def sumBlock (x : S771x4x1024.Idx → F .f32) (p : S771x1x1024.Idx → F .f32) (g : S257x1024.Idx → F .f32) :
    S771x4x1024.Idx → F .f32 := fun y =>
  FloatOps.addf (x y) (FloatOps.addf (p (ix3 (y 0) (0 : Fin 1) (y 2)))
    (g (ix2 (⟨(y 0).val % 257, Nat.mod_lt _ (by decide)⟩ : Fin 257) (y 2))))

/-! ## The stored values at an index -/

/-- The table's first store, at row `n` and lane `l`: row encoding `n / 16` plus column encoding `n % 16`. -/
theorem pay_grid (r q : S16x1024.Idx → F .f32) (j : S256x1024.Idx) (a b : Fin 16) (l : Fin 1024)
    (ha : a.val = (j 0).val / 16) (hb : b.val = (j 0).val % 16) (hl : l.val = (j 1).val) :
    k0_pay1 r q j = FloatOps.addf (r (ix2 a l)) (q (ix2 b l)) := by
  have h0 : (j 0).val < 256 := (j 0).isLt
  unfold k0_pay1
  rw [shapeCast_self, shapeCast_apply _ _ j (ix3 a b l : S16x16x1024.Idx) (by
    rewrite [Shape.rowMajor_val_three, Shape.rowMajor_val_two]
    show (a.val * 16 + b.val) * 1024 + l.val = (j 0).val * 1024 + (j 1).val
    omega)]
  refine congrArg₂ FloatOps.addf ?_ ?_
  · rw [broadcastTo_apply _ _ _ (ix3 a (0 : Fin 1) l : S16x1x1024.Idx) (fun d => match d with
      | ⟨0, _⟩ => by show a.val = if (16 : Nat) = 1 then 0 else a.val; rw [if_neg (by decide)]
      | ⟨1, _⟩ => by show 0 = if (1 : Nat) = 1 then 0 else b.val; rw [if_pos rfl]
      | ⟨2, _⟩ => by show l.val = if (1024 : Nat) = 1 then 0 else l.val; rw [if_neg (by decide)])]
    exact shapeCast_apply _ _ _ (ix2 a l : S16x1024.Idx) (by
      rewrite [Shape.rowMajor_val_three, Shape.rowMajor_val_two]
      show a.val * 1024 + l.val = (a.val * 1 + 0) * 1024 + l.val
      omega)
  · rw [broadcastTo_apply _ _ _ (ix3 (0 : Fin 1) b l : S1x16x1024.Idx) (fun d => match d with
      | ⟨0, _⟩ => by show 0 = if (1 : Nat) = 1 then 0 else a.val; rw [if_pos rfl]
      | ⟨1, _⟩ => by show b.val = if (16 : Nat) = 1 then 0 else b.val; rw [if_neg (by decide)]
      | ⟨2, _⟩ => by show l.val = if (1024 : Nat) = 1 then 0 else l.val; rw [if_neg (by decide)])]
    exact shapeCast_apply _ _ _ (ix2 b l : S16x1024.Idx) (by
      rewrite [Shape.rowMajor_val_three, Shape.rowMajor_val_two]
      show b.val * 1024 + l.val = (0 * 16 + b.val) * 1024 + l.val
      omega)

/-- A page's store, at row `n`, batch `b` and lane `l`: the input plus (the position encoding plus the table). -/
theorem pay_sum (v : S257x1024.Idx → F .f32) (x : S257x4x1024.Idx → F .f32) (p : S257x1x1024.Idx → F .f32)
    (j : S257x4x1024.Idx) :
    k0_pay4 v x p j
      = FloatOps.addf (x j) (FloatOps.addf (p (ix3 (j 0) (0 : Fin 1) (j 2))) (v (ix2 (j 0) (j 2)))) := by
  unfold k0_pay4 k0_pay3
  dsimp only
  rw [shapeCast_self, shapeCast_self]
  refine congrArg (FloatOps.addf (x j)) ?_
  rw [broadcastTo_apply _ _ j (ix3 (j 0) (0 : Fin 1) (j 2) : S257x1x1024.Idx) (fun d => match d with
    | ⟨0, _⟩ => by show (j 0).val = if (257 : Nat) = 1 then 0 else (j 0).val; rw [if_neg (by decide)]
    | ⟨1, _⟩ => by show 0 = if (1 : Nat) = 1 then 0 else (j 1).val; rw [if_pos rfl]
    | ⟨2, _⟩ => by show (j 2).val = if (1024 : Nat) = 1 then 0 else (j 2).val; rw [if_neg (by decide)])]
  refine congrArg (FloatOps.addf (p _)) ?_
  exact shapeCast_apply _ _ _ (ix2 (j 0) (j 2) : S257x1024.Idx) (by
    rewrite [Shape.rowMajor_val_three, Shape.rowMajor_val_two]
    show (j 0).val * 1024 + (j 2).val = ((j 0).val * 1 + 0) * 1024 + (j 2).val
    omega)

/-! ## The stores of one buffer together -/

section Reads

variable {sp1 sp2 : Space} (v6 : View sig .tc sp1 S257x1024 .f32) (f6 : v6.ty.Contents (Elt F))

/-- The scratch buffer after its two stores: the page table. -/
theorem read_grid (r q : S16x1024.Idx → F .f32) :
    v6.read (Elt F) (v6.writes (Elt F) f6
      [⟨Rect.unit ![256, 0] S1x1024.size inb_S257x1024_S1x1024_256_0, k0_pay2 (F := F)⟩,
        ⟨Rect.unit ![0, 0] S256x1024.size inb_S257x1024_S256x1024_0_0, k0_pay1 r q⟩]) = gridRows r q := by
  funext y
  have h0 : (y 0).val < 257 := (y 0).isLt
  by_cases h : (y 0).val < 256
  · rw [View.read_writes_cons_unit_of_not_mem v6 f6 _ _ _ y rfl 0 (Or.inl h)]
    refine (View.read_writes_cons_unit_of_mem v6 f6 (size := S256x1024.size) _ _ _ y
      (ix2 (⟨(y 0).val, h⟩ : Fin 256) (y 1) : S256x1024.Idx) rfl
        (fun a => match a with
          | ⟨0, _⟩ => (Nat.zero_add _).symm
          | ⟨1, _⟩ => (Nat.zero_add _).symm)).trans ?_
    unfold gridRows
    rw [dif_pos h]
    exact pay_grid r q _ _ _ _ rfl rfl rfl
  · refine (View.read_writes_cons_unit_of_mem v6 f6 (size := S1x1024.size) _ _ _ y
      (ix2 (0 : Fin 1) (y 1) : S1x1024.Idx) rfl
        (fun a => match a with
          | ⟨0, _⟩ => by show (y 0).val = 256 + 0; omega
          | ⟨1, _⟩ => (Nat.zero_add _).symm)).trans ?_
    unfold gridRows
    rw [dif_neg h]
    rfl

variable (v1 : View sig .tc sp1 S771x4x1024 .f32) (f1 : v1.ty.Contents (Elt F))
  (v2 : View sig .tc sp2 S771x1x1024 .f32) (f2 : v2.ty.Contents (Elt F)) (g : S257x1024.Idx → F .f32)

/-- One page's store at index `x`, the page starting at row `o`, is `sumBlock` at row `o + x₀`. -/
theorem page_sum (o : Nat) (ho : o % 257 = 0) (i1) (i2) (x : S257x4x1024.Idx) (y : S771x4x1024.Idx)
    (hy : ∀ a : Fin 3, (y a).val = (![o, 0, 0] : Fin 3 → Nat) a + (x a).val) :
    k0_pay4 g (v1.readAt (Elt F) (Rect.unit (s := S771x4x1024) ![o, 0, 0] S257x4x1024.size i1).toLoadRect f1)
        (v2.readAt (Elt F) (Rect.unit (s := S771x1x1024) ![o, 0, 0] S257x1x1024.size i2).toLoadRect f2) x
      = sumBlock (v1.read (Elt F) f1) (v2.read (Elt F) f2) g y := by
  have e0 : (y 0).val = o + (x 0).val := hy 0
  have e1 : (y 1).val = 0 + (x 1).val := hy 1
  have e2 : (y 2).val = 0 + (x 2).val := hy 2
  have hx : (x 0).val < 257 := (x 0).isLt
  rw [pay_sum]
  simp only [View.readAt_eq_ld]
  unfold sumBlock View.ld
  refine congrArg₂ FloatOps.addf (congrArg _ (funext fun a => Fin.ext ?_))
    (congrArg₂ FloatOps.addf (congrArg _ (funext fun a => Fin.ext ?_)) (congrArg g (funext fun a => Fin.ext ?_)))
  · match a with
    | ⟨0, _⟩ => show o + 1 * (x 0).val = (y 0).val; omega
    | ⟨1, _⟩ => show 0 + 1 * (x 1).val = (y 1).val; omega
    | ⟨2, _⟩ => show 0 + 1 * (x 2).val = (y 2).val; omega
  · match a with
    | ⟨0, _⟩ => show o + 1 * (x 0).val = (y 0).val; omega
    | ⟨1, _⟩ => rfl
    | ⟨2, _⟩ => show 0 + 1 * (x 2).val = (y 2).val; omega
  · match a with
    | ⟨0, _⟩ => show (x 0).val = (y 0).val % 257; omega
    | ⟨1, _⟩ => show (x 2).val = (y 2).val; omega

/-- The result's buffer after its three stores, one per page: `sumBlock`. -/
theorem read_sum (v5 : View sig .tc sp2 S771x4x1024 .f32) (f5 : v5.ty.Contents (Elt F)) :
    v5.read (Elt F) (v5.writes (Elt F) f5
      [⟨Rect.unit ![514, 0, 0] S257x4x1024.size inb_S771x4x1024_S257x4x1024_514_0_0,
          k0_pay6 g (v1.readAt (Elt F) (Rect.unit (s := S771x4x1024) ![514, 0, 0] S257x4x1024.size inb_S771x4x1024_S257x4x1024_514_0_0).toLoadRect f1)
            (v2.readAt (Elt F) (Rect.unit (s := S771x1x1024) ![514, 0, 0] S257x1x1024.size inb_S771x1x1024_S257x1x1024_514_0_0).toLoadRect f2)⟩,
        ⟨Rect.unit ![257, 0, 0] S257x4x1024.size inb_S771x4x1024_S257x4x1024_257_0_0,
          k0_pay5 g (v1.readAt (Elt F) (Rect.unit (s := S771x4x1024) ![257, 0, 0] S257x4x1024.size inb_S771x4x1024_S257x4x1024_257_0_0).toLoadRect f1)
            (v2.readAt (Elt F) (Rect.unit (s := S771x1x1024) ![257, 0, 0] S257x1x1024.size inb_S771x1x1024_S257x1x1024_257_0_0).toLoadRect f2)⟩,
        ⟨Rect.unit ![0, 0, 0] S257x4x1024.size inb_S771x4x1024_S257x4x1024_0_0_0,
          k0_pay4 g (v1.readAt (Elt F) (Rect.unit (s := S771x4x1024) ![0, 0, 0] S257x4x1024.size inb_S771x4x1024_S257x4x1024_0_0_0).toLoadRect f1)
            (v2.readAt (Elt F) (Rect.unit (s := S771x1x1024) ![0, 0, 0] S257x1x1024.size inb_S771x1x1024_S257x1x1024_0_0_0).toLoadRect f2)⟩])
      = sumBlock (v1.read (Elt F) f1) (v2.read (Elt F) f2) g := by
  funext y
  have h0 : (y 0).val < 771 := (y 0).isLt
  by_cases ha : (y 0).val < 514
  · rw [View.read_writes_cons_unit_of_not_mem v5 f5 _ _ _ y rfl 0 (Or.inl ha)]
    by_cases hb : (y 0).val < 257
    · rw [View.read_writes_cons_unit_of_not_mem v5 f5 _ _ _ y rfl 0 (Or.inl hb)]
      have hy : ∀ a : Fin 3, (y a).val = (![0, 0, 0] : Fin 3 → Nat) a
          + ((ix3 (⟨(y 0).val, hb⟩ : Fin 257) (y 1) (y 2) : S257x4x1024.Idx) a).val := fun a => match a with
        | ⟨0, _⟩ => (Nat.zero_add _).symm
        | ⟨1, _⟩ => (Nat.zero_add _).symm
        | ⟨2, _⟩ => (Nat.zero_add _).symm
      exact (View.read_writes_cons_unit_of_mem v5 f5 (size := S257x4x1024.size) _ _ _ y _ rfl hy).trans
        (page_sum v1 f1 v2 f2 g 0 rfl _ _ _ y hy)
    · have hy : ∀ a : Fin 3, (y a).val = (![257, 0, 0] : Fin 3 → Nat) a
          + ((ix3 (⟨(y 0).val - 257, by omega⟩ : Fin 257) (y 1) (y 2) : S257x4x1024.Idx) a).val := fun a => match a with
        | ⟨0, _⟩ => by show (y 0).val = 257 + ((y 0).val - 257); omega
        | ⟨1, _⟩ => (Nat.zero_add _).symm
        | ⟨2, _⟩ => (Nat.zero_add _).symm
      exact (View.read_writes_cons_unit_of_mem v5 f5 (size := S257x4x1024.size) _ _ _ y _ rfl hy).trans
        (page_sum v1 f1 v2 f2 g 257 rfl _ _ _ y hy)
  · have hy : ∀ a : Fin 3, (y a).val = (![514, 0, 0] : Fin 3 → Nat) a
        + ((ix3 (⟨(y 0).val - 514, by omega⟩ : Fin 257) (y 1) (y 2) : S257x4x1024.Idx) a).val := fun a => match a with
      | ⟨0, _⟩ => by show (y 0).val = 514 + ((y 0).val - 514); omega
      | ⟨1, _⟩ => (Nat.zero_add _).symm
      | ⟨2, _⟩ => (Nat.zero_add _).symm
    exact (View.read_writes_cons_unit_of_mem v5 f5 (size := S257x4x1024.size) _ _ _ y _ rfl hy).trans
      (page_sum v1 f1 v2 f2 g 514 rfl _ _ _ y hy)

end Reads

end Cert.KernelIdeal.Hand

end
-- ==== Proof.KernelIdeal.Body.lean ====
/-
  What one run of the kernel's body does to the six buffers it is handed.

  `body_first`: at grid point 0 the body fills the scratch buffer with the page table `gridRows r q` and then writes
  `sumBlock x p (gridRows r q)` to the result's buffer.
  `body_later`: at every later point it reads the scratch buffer, which holds `g`, and writes `sumBlock x p g`.
  The four input buffers are unchanged in both. The buffers are any whole buffers of the right shapes, so the two
  facts serve every point whichever staging buffer it uses.
-/
module

public import proofs.«01_k».proof.Proof.KernelIdeal.Block
public import proofs.«01_k».proof.Proof.Gen.KernelIdeal.Points
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The test for the first grid point, as the body computes it. -/
abbrev isFirst (i : grid0.Coords) : Prop :=
  Scalar.cmpi .ne (Scalar.extui (Scalar.cmpi .eq (BitVec.ofNat 32 (i 0).val) 0#32) : BitVec 32) 0#32 = 1#1

/-- Offset zero in both axes, as a function. -/
theorem zero_off : (![0, 0] : Fin 2 → Nat) = fun _ => 0 := funext fun a => match a with
  | ⟨0, _⟩ => rfl
  | ⟨1, _⟩ => rfl

/-- A load of a whole table of sixteen rows reads what the buffer holds. -/
theorem read_all16 {sp : Space} (v : View sig .tc sp S16x1024 .f32) (f : v.ty.Contents (Elt F)) :
    v.readAt (Elt F) (Rect.unit (s := S16x1024) ![0, 0] S16x1024.size inb_S16x1024_S16x1024_0_0).toLoadRect f
      = v.read (Elt F) f := by
  rw [View.readAt_eq_ld]
  exact View.ld_unit_zero (S := S16x1024) zero_off _ _

/-- A load of the whole page table reads what the buffer holds. -/
theorem read_all257 {sp : Space} (v : View sig .tc sp S257x1024 .f32) (f : v.ty.Contents (Elt F)) :
    v.readAt (Elt F) (Rect.unit (s := S257x1024) ![0, 0] S257x1024.size inb_S257x1024_S257x1024_0_0).toLoadRect f
      = v.read (Elt F) f := by
  rw [View.readAt_eq_ld]
  exact View.ld_unit_zero (S := S257x1024) zero_off _ _

variable (c : Dev nD) (E : Set ℕ) (i : grid0.Coords)
  (a1 : Memref sig .tc .vmem S771x4x1024 .f32) (h1 : a1.IsWhole) (a2 : Memref sig .tc .vmem S771x1x1024 .f32) (h2 : a2.IsWhole)
  (a3 : Memref sig .tc .vmem S16x1024 .f32) (h3 : a3.IsWhole) (a4 : Memref sig .tc .vmem S16x1024 .f32) (h4 : a4.IsWhole)
  (a5 : Memref sig .tc .vmem S771x4x1024 .f32) (h5 : a5.IsWhole) (a6 : Memref sig .tc .vmem S257x1024 .f32) (h6 : a6.IsWhole)
  (x : S771x4x1024.Idx → F .f32) (p : S771x1x1024.Idx → F .f32) (r q : S16x1024.Idx → F .f32)
  (d : S771x4x1024.Idx → F .f32) (g : S257x1024.Idx → F .f32)

/-- The six buffers at given contents. -/
abbrev six (d : S771x4x1024.Idx → F .f32) (g : S257x1024.Idx → F .f32) : sProp 𝕄 :=
  iprop(owns (c : Thread nD τ) a1 fullShare x ∗ owns (c : Thread nD τ) a2 fullShare p ∗ owns (c : Thread nD τ) a3 fullShare r
    ∗ owns (c : Thread nD τ) a4 fullShare q ∗ owns (c : Thread nD τ) a5 fullShare d ∗ owns (c : Thread nD τ) a6 fullShare g)

set_option maxHeartbeats 1000000 in
/-- A later point: the scratch buffer holds `g` and keeps it, the result's buffer ends at `sumBlock x p g`. -/
theorem body_later (K : PUnit → sProp 𝕄) (hc : ¬ isFirst i) :
    iprop(six c a1 a2 a3 a4 a5 a6 x p r q d g ∗ (six c a1 a2 a3 a4 a5 a6 x p r q (sumBlock x p g) g -∗ K ⟨⟩))
      ⊢ wp frame (wpE (defs₀ (F := F)) Variants.none c none) E (cc0__body i a1 h1 a2 h2 a3 h3 a4 h4 a5 h5 a6 h6) K := by
  simp only [cc0__body_eq_skeleton]; unfold cc0__body_skel
  simp only [k0_part1_eq_skeleton]
  unfold six owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩⟩, Hk⟩
  subst hf1 hf2 hf3 hf4 hf6
  sl_exec (disch := exact hc)
  sl_unfold_words
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; rotate_left; iexact H5
    ipureintro
    rw [read_all257]
    exact read_sum a1.view f1 a2.view f2 (a6.view.read (Elt F) f6) a5.view _
  · iexists f6; isplitr; · ipureintro; rfl
    iexact H6

set_option maxHeartbeats 1000000 in
/-- The first point: the scratch buffer ends at the page table of `r` and `q`, the result's buffer at the sum with it. -/
theorem body_first (K : PUnit → sProp 𝕄) (hc : isFirst i) :
    iprop(six c a1 a2 a3 a4 a5 a6 x p r q d g
        ∗ (six c a1 a2 a3 a4 a5 a6 x p r q (sumBlock x p (gridRows r q)) (gridRows r q) -∗ K ⟨⟩))
      ⊢ wp frame (wpE (defs₀ (F := F)) Variants.none c none) E (cc0__body i a1 h1 a2 h2 a3 h3 a4 h4 a5 h5 a6 h6) K := by
  simp only [cc0__body_eq_skeleton]; unfold cc0__body_skel
  simp only [k0_part1_eq_skeleton]
  unfold six owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩⟩, Hk⟩
  subst hf1 hf2 hf3 hf4
  sl_exec (disch := exact hc)
  sl_unfold_words
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; rotate_left; iexact H5
    ipureintro
    unfold View.readCov
    rw [read_all257, read_all16, read_all16, read_grid]
    exact read_sum a1.view f1 a2.view f2 _ a5.view _
  · iexists _; isplitr; rotate_left; iexact H6
    ipureintro
    rw [read_all16, read_all16]
    exact read_grid a6.view _ _ _

end Cert.KernelIdeal.Hand

end
-- ==== Proof.KernelIdeal.Run.lean ====
/-
  The kernel's run: what each staging buffer holds at each grid point, and the run of the whole program from that.

  The proof data `dats`: at point `t` the two clipped input buffers hold their blocks on the rows inside the array,
  the two tables of sixteen rows are whole at every point, the scratch buffer holds anything before point 0 and the
  page table `table` after it, and the result's buffer ends at `sumBlock` of the blocks and `table` — past the
  array's end nothing is stated of it. `run_main` is the library's launch theorem for a region between host lines.
-/
module

public import proofs.«01_k».proof.Proof.KernelIdeal.Body
public import proofs.«01_k».proof.Proof.Gen.KernelIdeal.Frame
public import Idealize.ShloMosaic.Lib.Pipeline.FrameSuffix
public import Idealize.ShloMosaic.Lib.Pipeline.Quiescent

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rows inside the array -/

/-- Contents of the result's block that agree on the rows inside the array are the same filling. -/
theorem fill_agree (i : grid0.Coords) (S A : S771x4x1024.Idx → F .f32)
    (h : ∀ y : S771x4x1024.Idx, win0_4.moved i y = true → A y = S y) :
    win0_4.fill i S (win0_4.cut i A) = S := by
  funext y
  unfold Window.fill
  split
  · rename_i hm
    exact h y hm
  · rfl

/-- A row of the result's block inside the array is a row of the input's block inside the array, -/
theorem moved_x (i : grid0.Coords) (y : S771x4x1024.Idx) (h : win0_4.moved i y = true) : win0_0.moved i y = true := h

/-- and of the position encodings' block. -/
theorem moved_p (t : Fin grid0.N) (y : S771x4x1024.Idx) (h : win0_4.moved (grid0.coords t) y = true) :
    win0_1.moved (grid0.coords t) (ix3 (y 0) (0 : Fin 1) (y 2) : S771x1x1024.Idx) = true := by
  rw [Window.moved_iff] at h ⊢
  have e1 : win0_1.xsize (grid0.coords t) 1 = 1 := by
    rcases fin_N0 t with rfl | rfl | rfl | rfl | rfl | rfl | rfl | rfl | rfl | rfl | rfl | rfl | rfl <;> decide +kernel
  have h0 := h 0
  have h2 := h 2
  exact fun a => match a with
    | ⟨0, _⟩ => h0
    | ⟨1, _⟩ => by
        show 0 < win0_1.xsize (grid0.coords t) 1
        rw [e1]; exact Nat.one_pos
    | ⟨2, _⟩ => h2

/-- The sum of two filled blocks, on the rows inside the array, is the same whatever fills the others. -/
theorem sum_inside (t : Fin grid0.N) (d0 d0' : S771x4x1024.Idx → F .f32) (d1 d1' : S771x1x1024.Idx → F .f32)
    (x : (win0_0.xblock (grid0.coords t)).Idx → F .f32) (p : (win0_1.xblock (grid0.coords t)).Idx → F .f32)
    (g : S257x1024.Idx → F .f32) (y : S771x4x1024.Idx) (h : win0_4.moved (grid0.coords t) y = true) :
    sumBlock (win0_0.fill (grid0.coords t) d0 x) (win0_1.fill (grid0.coords t) d1 p) g y
      = sumBlock (win0_0.fill (grid0.coords t) d0' x) (win0_1.fill (grid0.coords t) d1' p) g y := by
  unfold sumBlock Window.fill
  rw [dif_pos (moved_x _ y h), dif_pos (moved_x _ y h), dif_pos (moved_p t y h), dif_pos (moved_p t y h)]

/-! ## The proof data -/

/-- Zero words, filling a block out past the array's end. -/
def zeros {s : Shape} : s.Idx → F .f32 := fun _ => Scalar.ofBits .f32 0#32

/-- The page table of the row and column encodings as the region finds them. -/
def table (c : Dev nD) : S257x1024.Idx → F .f32 := gridRows (iblk m c 2 t0_0) (iblk m c 3 t0_0)

/-- The input's block at point `t`, filled out. -/
def xfull (c : Dev nD) (t : Fin cfg0.N) : S771x4x1024.Idx → F .f32 :=
  win0_0.fill (grid0.coords t) zeros (iblk m c 0 t)
/-- The position encodings' block at point `t`, filled out. -/
def pfull (c : Dev nD) (t : Fin cfg0.N) : S771x1x1024.Idx → F .f32 :=
  win0_1.fill (grid0.coords t) zeros (iblk m c 1 t)

/-- What the kernel keeps between points: before point 0 its scratch buffer at anything, afterwards the page table. -/
def inv (c : Dev nD) (n : Nat) : sProp 𝕄 :=
  if n = 0 then Pipeline.ΦA spec0 c
  else iprop(owns (c : Thread nD τ) (Memref.whole cc0_scratch0) fullShare (table m c) ∗ ∃ r, prngReg c r)

/-- The proof data of the one pipeline on device `c`. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => pfull m c t
    | ⟨2, _⟩ => iblk m c 2 t
    | ⟨3, _⟩ => iblk m c 3 t
    | ⟨4, _⟩ => sumBlock (xfull m c t) (pfull m c t) (table m c)
  Φ t := inv m c t.val
  q _ := fullShare
  owed _ := 0

/-- The kernel's variants: none. -/
abbrev 𝒱₀ : Variants := Variants.none

/-! ## What the body finds -/

theorem before_0 (c : Dev nD) (t : Fin cfg0.N) (d) :
    (dats m 0 c).before (0 : Fin 5) t d = win0_0.fill (grid0.coords t) d (iblk m c 0 t) := by
  unfold Dat.before; rw [if_pos (fetch0_0 t)]; rfl
theorem before_1 (c : Dev nD) (t : Fin cfg0.N) (d) :
    (dats m 0 c).before (1 : Fin 5) t d = win0_1.fill (grid0.coords t) d (iblk m c 1 t) := by
  unfold Dat.before; rw [if_pos (fetch0_1 t)]; rfl
theorem before_2 (c : Dev nD) (t : Fin cfg0.N) (d) : (dats m 0 c).before (2 : Fin 5) t d = iblk m c 2 t :=
  before0_2_of m (dats m 0 c) rfl (fun _ => rfl) t d
theorem before_3 (c : Dev nD) (t : Fin cfg0.N) (d) : (dats m 0 c).before (3 : Fin 5) t d = iblk m c 3 t :=
  before0_3_of m (dats m 0 c) rfl (fun _ => rfl) t d
/-- The result's buffer holds contents nothing names: it is never fetched, and written back at every point. -/
theorem before_4 (c : Dev nD) (t : Fin cfg0.N) (d) : (dats m 0 c).before (4 : Fin 5) t d = d := by
  have hf : (cfg0.win (4 : Fin 5)).fetch t = false := by
    rcases fin_N0 t with rfl | rfl | rfl | rfl | rfl | rfl | rfl | rfl | rfl | rfl | rfl | rfl | rfl <;> decide
  unfold Dat.before
  rw [if_neg (by rw [hf]; exact Bool.false_ne_true)]
  by_cases h : t.val = 0
  · exact if_pos h
  · rw [if_neg h]; exact if_pos (flush0_4 _)

/-- The tables of sixteen rows are the same block at every point. -/
theorem iblk_2 (c : Dev nD) (t : Fin cfg0.N) : iblk m c 2 t = iblk m c 2 t0_0 := rfl
theorem iblk_3 (c : Dev nD) (t : Fin cfg0.N) : iblk m c 3 t = iblk m c 3 t0_0 := rfl

/-- The body's test says whether the point is the first. -/
theorem isFirst_iff (t : Fin grid0.N) : isFirst (grid0.coords t) ↔ t.val = 0 := by
  rcases fin_N0 t with rfl | rfl | rfl | rfl | rfl | rfl | rfl | rfl | rfl | rfl | rfl | rfl | rfl <;> decide +kernel

/-! ## The body's obligation -/

/-- One point, before and after: the body turns the invariant at `t` into the invariant at `t + 1` and the five
    staging buffers from what the pipeline hands over into the blocks and their sum. -/
theorem point (c : Dev nD) (t : Fin cfg0.N) (d0 d4 : S771x4x1024.Idx → F .f32) (d1 : S771x1x1024.Idx → F .f32)
    (K : PUnit → sProp 𝕄) :
    iprop(inv m c t.val
        ∗ owns (c : Thread nD τ) (st0_0 t) fullShare (win0_0.fill (grid0.coords t) d0 (iblk m c 0 t))
        ∗ owns (c : Thread nD τ) (st0_1 t) fullShare (win0_1.fill (grid0.coords t) d1 (iblk m c 1 t))
        ∗ owns (c : Thread nD τ) (st0_2 t) fullShare (iblk m c 2 t)
        ∗ owns (c : Thread nD τ) (st0_3 t) fullShare (iblk m c 3 t)
        ∗ owns (c : Thread nD τ) (st0_4 t) fullShare d4
        ∗ (iprop(inv m c (t.val + 1)
            ∗ owns (c : Thread nD τ) (st0_0 t) fullShare (win0_0.fill (grid0.coords t) d0 (iblk m c 0 t))
            ∗ owns (c : Thread nD τ) (st0_1 t) fullShare (win0_1.fill (grid0.coords t) d1 (iblk m c 1 t))
            ∗ owns (c : Thread nD τ) (st0_2 t) fullShare (iblk m c 2 t)
            ∗ owns (c : Thread nD τ) (st0_3 t) fullShare (iblk m c 3 t)
            ∗ owns (c : Thread nD τ) (st0_4 t) fullShare
                (sumBlock (win0_0.fill (grid0.coords t) d0 (iblk m c 0 t)) (win0_1.fill (grid0.coords t) d1 (iblk m c 1 t))
                  (table m c))) -∗ K ⟨⟩))
      ⊢ wp frame (wpE (defs₀ (F := F)) 𝒱₀ c none) Set.univ (bodyAt0 t) K := by
  unfold inv
  rw [if_neg (Nat.succ_ne_zero t.val)]
  by_cases ht : t.val = 0
  · rw [if_pos ht]
    unfold Pipeline.ΦA
    rw [scopedRest0_eq]
    iintro ⟨⟨⟨%f, Hs⟩, Hr⟩, H0, H1, H2, H3, H4, Hk⟩
    iapply (body_first (F := F) c Set.univ (grid0.coords t) (st0_0 t) _ (st0_1 t) _ (st0_2 t) _ (st0_3 t) _ (st0_4 t) _
      (Memref.whole cc0_scratch0) _ _ _ (iblk m c 2 t) (iblk m c 3 t) d4 f K ((isFirst_iff t).mpr ht))
    rw [six, six]
    isplitl [Hs H0 H1 H2 H3 H4]
    · isplitl [H0]; · iexact H0
      isplitl [H1]; · iexact H1
      isplitl [H2]; · iexact H2
      isplitl [H3]; · iexact H3
      isplitl [H4]; · iexact H4
      rw [owns_whole_eq]
      iexists f; isplitr; · ipureintro; rfl
      iexact Hs
    iintro ⟨H0, H1, H2, H3, H4, Hs⟩
    iapply Hk
    isplitl [Hs Hr]
    · isplitl [Hs]; · iexact Hs
      iexact Hr
    isplitl [H0]; · iexact H0
    isplitl [H1]; · iexact H1
    isplitl [H2]; · iexact H2
    isplitl [H3]; · iexact H3
    iexact H4
  · rw [if_neg ht]
    iintro ⟨⟨Hs, Hr⟩, H0, H1, H2, H3, H4, Hk⟩
    iapply (body_later (F := F) c Set.univ (grid0.coords t) (st0_0 t) _ (st0_1 t) _ (st0_2 t) _ (st0_3 t) _ (st0_4 t) _
      (Memref.whole cc0_scratch0) _ _ _ (iblk m c 2 t) (iblk m c 3 t) d4 (table m c) K
      (fun h => ht ((isFirst_iff t).mp h)))
    rw [six, six]
    isplitl [Hs H0 H1 H2 H3 H4]
    · isplitl [H0]; · iexact H0
      isplitl [H1]; · iexact H1
      isplitl [H2]; · iexact H2
      isplitl [H3]; · iexact H3
      isplitl [H4]; · iexact H4
      iexact Hs
    iintro ⟨H0, H1, H2, H3, H4, Hs⟩
    iapply Hk
    isplitl [Hs Hr]
    · isplitl [Hs]; · iexact Hs
      iexact Hr
    isplitl [H0]; · iexact H0
    isplitl [H1]; · iexact H1
    isplitl [H2]; · iexact H2
    isplitl [H3]; · iexact H3
    iexact H4

/-- The library's obligation for the body, point by point from `point`: on the rows inside the array the buffers
    hold what the proof data says. -/
theorem body_obligation (c : Dev nD) : BodyObligationLoose (dats m 0 c) (defs₀ (F := F)) 𝒱₀ () Set.univ := fun t => by
  rw [bigSep_W0, bigSep_W0]
  simp only
  rw [show (dats m 0 c).Φ t.castSucc = inv m c t.val from rfl,
    show (dats m 0 c).Φ t.succ = inv m c (t.val + 1) from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3, before_4 m c t d4]
  iapply (point (F := F) m c t d0 d4 d1 _)
  isplitl [HΦ]; · iexact HΦ
  isplitl [H0]; · iexact H0
  isplitl [H1]; · iexact H1
  isplitl [H2]; · iexact H2
  isplitl [H3]; · iexact H3
  isplitl [H4]; · iexact H4
  iintro ⟨HΦ, H0, H1, H2, H3, H4⟩
  isplitl [HΦ]; · iexact HΦ
  isplitl [Ho]; · iexact Ho
  have hx : win0_0.cut (grid0.coords t) (xfull m c t) = iblk m c 0 t := win0_0.cut_fill _ _ _
  have hp : win0_1.cut (grid0.coords t) (pfull m c t) = iblk m c 1 t := win0_1.cut_fill _ _ _
  isplitl [H0]
  · iexists d0
    change _ ⊢ owns (c : Thread nD τ) (st0_0 t) fullShare (win0_0.fill (grid0.coords t) d0 (win0_0.cut (grid0.coords t) (xfull m c t)))
    rw [hx]; try iexact H0
  isplitl [H1]
  · iexists d1
    change _ ⊢ owns (c : Thread nD τ) (st0_1 t) fullShare (win0_1.fill (grid0.coords t) d1 (win0_1.cut (grid0.coords t) (pfull m c t)))
    rw [hp]; try iexact H1
  isplitl [H2]; · iexact H2
  isplitl [H3]; · iexact H3
  · iexists (sumBlock (win0_0.fill (grid0.coords t) d0 (iblk m c 0 t)) (win0_1.fill (grid0.coords t) d1 (iblk m c 1 t)) (table m c))
    have hs := fill_agree (grid0.coords t) _ _ (fun y hy => sum_inside t zeros d0 zeros d1 (iblk m c 0 t) (iblk m c 1 t)
      (table m c) y hy)
    exact BIBase.Entails.of_eq (congrArg (owns (c : Thread nD τ) (st0_4 t) fullShare) hs.symm)

/-! ## The run -/

/-- After the last point the invariant gives back the scratch buffer at some contents. -/
theorem inv_out (c : Dev nD) : inv m c cfg0.N ⊢ Pipeline.ΦA (U := UR sig nD τ) (Val := Elt F) spec0 c := by
  have hN : cfg0.N ≠ 0 := by decide
  unfold inv
  rw [if_neg hN]
  unfold Pipeline.ΦA
  rw [scopedRest0_eq, owns_whole_eq]
  iintro ⟨⟨%f, %hf, Hs⟩, Hr⟩
  isplitl [Hs]
  · iexists f; iexact Hs
  iexact Hr

set_option backward.isDefEq.respectTransparency.types false in
/-- From any memory with counters at zero the program terminates; every array then holds what the proof data says
    after the last write-back, every other buffer what the host lines leave in it, and the counters are zero. -/
theorem run_main : θ_run defs (onTc (τ := τ) (main (F := F))) (s₀ m ρ)
    (fun r => Pipeline.FramePost cfgs (dats m) 0 (Pipeline.afterTail₀ cfgs (dats m) 0 (V0 m) [hostOps1]) r
      ∧ r.2.sem = fun _ => 0) :=
  Pipeline.θ_run_frame_around_track cfgs (dats m) (0 : Fin 1) launch0 defs₀ 𝒱₀ m ρ main
    (hbody := fun c => body_obligation m c)
    (hshare := fun c => (dats m 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl)
    (hin := fun c => by
      show _ ⊢ inv m c 0
      unfold inv
      rw [if_pos rfl])
    (hout := fun c => inv_out m c)
    (Q' := fun r => Pipeline.FramePost cfgs (dats m) 0 (Pipeline.afterTail₀ cfgs (dats m) 0 (V0 m) [hostOps1]) r
      ∧ r.2.sem = fun _ => 0)
    (hQ' := fun _ h => h)

/-- The arguments end as launched, with every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_with_sems (frame_of m ρ (dats m) (fun _ _ => rfl)) (run_main m ρ)

end Cert.KernelIdeal.Hand

end
-- ==== Proof.KernelIdeal.Array.lean ====
/-
  The array the kernel writes, at an index.

  Row `n` of the array lies in block `n / 771`, at row `n - 771 * (n / 771)` of it; as `771 = 3 * 257` that row and `n`
  leave the same remainder by 257, so every block adds the page table in step with the array. `array_eq` states the
  whole array; the last of the thirteen blocks is cut at the array's end.
-/
module

public import proofs.«01_k».proof.Proof.KernelIdeal.Run
public import Idealize.ShloMosaic.Lib.Pipeline.ValueKit

@[expose] public section

set_option maxRecDepth 16384

noncomputable section

namespace Cert.KernelIdeal.Hand

open Cert.KernelIdeal Cert.KernelIdeal.Gen
open Idealize.ShloMosaic hiding ix2 ix3
open Idealize.ShloMosaic.TcCoe Idealize.ShloMosaic.ValueIdx
open Idealize.ShloMosaic.Pipeline (Dat Cfg Window)

variable {F : FTy → Type} [FloatOps F]

variable (m : (ℓ : Loc nD τ sig) → Buf (Elt F) ℓ)

/-- The array: the input plus, the same for the four batches, the position encoding's row plus the page table's. -/
def total (x : S9509x4x1024.Idx → F .f32) (p : S9509x1x1024.Idx → F .f32) (g : S257x1024.Idx → F .f32) :
    S9509x4x1024.Idx → F .f32 := fun i =>
  FloatOps.addf (x i) (FloatOps.addf (p (ix3 (⟨(i 0).val, (i 0).isLt⟩ : Fin 9509) (0 : Fin 1) (⟨(i 2).val, (i 2).isLt⟩ : Fin 1024)))
    (g (ix2 (⟨(i 0).val % 257, Nat.mod_lt _ (by decide)⟩ : Fin 257) (⟨(i 2).val, (i 2).isLt⟩ : Fin 1024))))

/-- The three clipped windows are at the same block at every point: block `t` of the rows. -/
theorem index_0 (t : Fin grid0.N) : win0_0.index t = ![t.val, 0, 0] := by
  rcases fin_N0 t with rfl | rfl | rfl | rfl | rfl | rfl | rfl | rfl | rfl | rfl | rfl | rfl | rfl <;> decide +kernel
theorem index_1 (t : Fin grid0.N) : win0_1.index t = ![t.val, 0, 0] := by
  rcases fin_N0 t with rfl | rfl | rfl | rfl | rfl | rfl | rfl | rfl | rfl | rfl | rfl | rfl | rfl <;> decide +kernel
theorem index_4 (t : Fin grid0.N) : win0_4.index t = ![t.val, 0, 0] := by
  rcases fin_N0 t with rfl | rfl | rfl | rfl | rfl | rfl | rfl | rfl | rfl | rfl | rfl | rfl | rfl <;> decide +kernel

/-- One column of rows in every block of the position encodings. -/
theorem xsize_1 (t : Fin grid0.N) : win0_1.xsize (grid0.coords t) 1 = 1 := by
  rcases fin_N0 t with rfl | rfl | rfl | rfl | rfl | rfl | rfl | rfl | rfl | rfl | rfl | rfl | rfl <;> decide +kernel

/-- Where an element of block `t` lies in the array: as many rows on as the blocks before hold. -/
theorem place (t : Fin grid0.N) (y : (win0_4.xblock (grid0.coords t)).Idx) :
    (((win0_4.blk t).view.emb y 0).val = t.val * 771 + (y 0).val)
      ∧ (((win0_4.blk t).view.emb y 2).val = (y 2).val) := by
  have h0 := win0_4.rect_emb_val t y 0
  have h2 := win0_4.rect_emb_val t y 2
  rw [index_4] at h0 h2
  exact ⟨h0, h2.trans (by show 0 * 1024 + (y 2).val = _; rw [Nat.zero_mul, Nat.zero_add])⟩

/-- The filled-out input block at a row inside the array is the input there. -/
theorem xfull_at (c : Dev nD) (t : Fin grid0.N) (y : (win0_4.xblock (grid0.coords t)).Idx) :
    xfull m c t (win0_4.xinj (grid0.coords t) y) = V m c main_v0 ((win0_4.blk t).view.emb y) :=
  (win0_0.fill_xinj (grid0.coords t) zeros (iblk m c 0 t) y).trans rfl

/-- A row of the result's block, as a row of the position encodings' block. -/
def rowOf (t : Fin grid0.N) (y : (win0_4.xblock (grid0.coords t)).Idx) : (win0_1.xblock (grid0.coords t)).Idx
  | ⟨0, _⟩ => ⟨(y 0).val, (y 0).isLt⟩
  | ⟨1, _⟩ => ⟨0, Nat.lt_of_lt_of_eq Nat.one_pos (xsize_1 t).symm⟩
  | ⟨2, _⟩ => ⟨(y 2).val, (y 2).isLt⟩

/-- The filled-out position encodings' block at a row inside the array is the encoding there. -/
theorem pfull_at (c : Dev nD) (t : Fin grid0.N) (y : (win0_4.xblock (grid0.coords t)).Idx)
    (n : Fin 9509) (l : Fin 1024) (hn : n.val = t.val * 771 + (y 0).val) (hl : l.val = (y 2).val) :
    pfull m c t (ix3 (win0_4.xinj (grid0.coords t) y 0) (0 : Fin 1) (win0_4.xinj (grid0.coords t) y 2))
      = V m c main_v1 (ix3 n (0 : Fin 1) l) := by
  have hj : (ix3 (win0_4.xinj (grid0.coords t) y 0) (0 : Fin 1) (win0_4.xinj (grid0.coords t) y 2) : S771x1x1024.Idx)
      = win0_1.xinj (grid0.coords t) (rowOf t y) := funext fun a => match a with
    | ⟨0, _⟩ => rfl
    | ⟨1, _⟩ => rfl
    | ⟨2, _⟩ => rfl
  have h0 := win0_1.rect_emb_val t (rowOf t y) 0
  have h2 := win0_1.rect_emb_val t (rowOf t y) 2
  rw [index_1] at h0 h2
  have he : (win0_1.blk t).view.emb (rowOf t y) = (ix3 n (0 : Fin 1) l : S9509x1x1024.Idx) := funext fun a => match a with
    | ⟨0, _⟩ => Fin.ext (h0.trans hn.symm)
    | ⟨1, _⟩ => Subsingleton.elim (α := Fin 1) _ _
    | ⟨2, _⟩ => Fin.ext (h2.trans ((by show 0 * 1024 + (y 2).val = _; rw [Nat.zero_mul, Nat.zero_add] : _ = (y 2).val).trans hl.symm))
  rw [hj]
  refine (win0_1.fill_xinj (grid0.coords t) zeros (iblk m c 1 t) (rowOf t y)).trans ?_
  show V m c main_v1 ((win0_1.blk t).view.emb (rowOf t y)) = _
  rw [he]

/-- The array after the last write-back. -/
theorem array_eq (c : Dev nD) :
    (dats m 0 c).arrAt 4 cfg0.N = total (V m c main_v0) (V m c main_v1) (table m c) := by
  refine (dats m 0 c).arrAt_eq_of_covers 4 _ (by decide +kernel) fun t hf y => ?_
  obtain ⟨h0, h2⟩ := place t y
  show sumBlock (xfull m c t) (pfull m c t) (table m c) (win0_4.xinj (grid0.coords t) y)
    = total (V m c main_v0) (V m c main_v1) (table m c) ((win0_4.blk t).view.emb y)
  unfold sumBlock total
  rw [xfull_at]
  refine congrArg _ (congr (congrArg _ (pfull_at m c t y _ _ h0 h2)) (congrArg _ ?_))
  refine funext fun a => match a with
    | ⟨0, _⟩ => Fin.ext ?_
    | ⟨1, _⟩ => Fin.ext h2.symm
  show (y 0).val % 257 = ((win0_4.blk t).view.emb y 0).val % 257
  rw [h0]
  omega

end Cert.KernelIdeal.Hand

end
-- ==== Proof.KernelIdeal.Value.lean ====
/-
  The kernel's result at an index, and the run that leaves it.

  Around the launch the host only moves axes: the batch axis of the input and of the position encodings goes inside
  before it, and back outside after it. `result_at` is the result at `(b, n, l)`; `run_value` is the run.
-/
module

public import proofs.«01_k».proof.Proof.KernelIdeal.Array
public import Idealize.ShloMosaic.Lib.StableHlo.Run

@[expose] public section

set_option maxRecDepth 16384

noncomputable section

namespace Cert.KernelIdeal.Hand

open Cert.KernelIdeal Cert.KernelIdeal.Gen
open Idealize.ShloMosaic hiding ix2 ix3
open Idealize.ShloMosaic.TcCoe Idealize.ShloMosaic.ValueIdx Idealize.SL.Sem
open Idealize.ShloMosaic.Pipeline (Dat Cfg Window)

variable {F : FTy → Type} [FloatOps F]

variable (m : (ℓ : Loc nD τ sig) → Buf (Elt F) ℓ) (ρ : Dev nD → PrngReg)

/-- The launch finds the input with its batch axis inside, -/
theorem entry_x (c : Dev nD) : V m c main_v0
    = transpose S9509x4x1024 [1, 0, 2] (m ((c : Thread nD τ).loc main_arg0)) transposes_S4x9509x1024_S9509x4x1024_1_0_2 := by
  show StableHlo.after hostOps0 (fun b => m (c, b)) (Proc.devRef .tc _) = _
  after_results_simp <;> rfl

/-- and the position encodings likewise. -/
theorem entry_p (c : Dev nD) : V m c main_v1
    = transpose S9509x1x1024 [1, 0, 2] (m ((c : Thread nD τ).loc main_arg1)) transposes_S1x9509x1024_S9509x1x1024_1_0_2 := by
  show StableHlo.after hostOps0 (fun b => m (c, b)) (Proc.devRef .tc _) = _
  after_results_simp <;> rfl

/-- The page table is that of the row and column encodings as launched. -/
theorem entry_table (c : Dev nD) : table m c
    = gridRows (m ((c : Thread nD τ).loc main_arg2)) (m ((c : Thread nD τ).loc main_arg3)) := by
  have hr : iblk m c 2 t0_0 = V m c main_arg2 := funext fun y => by
    show V m c main_arg2 ((win0_2.blk t0_0).view.emb y) = _
    refine congrArg _ (funext fun a => match a with
      | ⟨0, _⟩ => Fin.ext ((win0_2.rect_emb_val t0_0 y 0).trans ?_)
      | ⟨1, _⟩ => Fin.ext ((win0_2.rect_emb_val t0_0 y 1).trans ?_))
    · show 0 * 16 + (y 0).val = (y 0).val
      rw [Nat.zero_mul, Nat.zero_add]
    · show 0 * 1024 + (y 1).val = (y 1).val
      rw [Nat.zero_mul, Nat.zero_add]
  have hq : iblk m c 3 t0_0 = V m c main_arg3 := funext fun y => by
    show V m c main_arg3 ((win0_3.blk t0_0).view.emb y) = _
    refine congrArg _ (funext fun a => match a with
      | ⟨0, _⟩ => Fin.ext ((win0_3.rect_emb_val t0_0 y 0).trans ?_)
      | ⟨1, _⟩ => Fin.ext ((win0_3.rect_emb_val t0_0 y 1).trans ?_))
    · show 0 * 16 + (y 0).val = (y 0).val
      rw [Nat.zero_mul, Nat.zero_add]
    · show 0 * 1024 + (y 1).val = (y 1).val
      rw [Nat.zero_mul, Nat.zero_add]
  unfold table
  rw [hr, hq, V_main_arg2, V_main_arg3]

/-- The result: the array with its batch axis back outside. -/
def result (c : Dev nD) : S4x9509x1024.Idx → F .f32 :=
  transpose S4x9509x1024 [1, 0, 2] (total (V m c main_v0) (V m c main_v1) (table m c)) transposes_S9509x4x1024_S4x9509x1024_1_0_2

theorem exit_result (c : Dev nD) :
    Pipeline.afterTail₀ cfgs (dats m) 0 (V0 m) [hostOps1] c main_v3 = result m c := by
  have h : Pipeline.withArrays (cfgs 0).spec c (V0 m c) (fun w => (dats m 0 c).arrAt w (cfgs 0).N) (Proc.devRef .tc main_v2)
      = total (V m c main_v0) (V m c main_v1) (table m c) :=
    (Pipeline.withArrays_arr spec0 (by decide) c (V0 m c) (fun w => (dats m 0 c).arrAt w cfg0.N) 4).trans (array_eq m c)
  unfold Pipeline.afterTail₀ result
  rw [← h]
  after_results_simp <;> rfl

/-- The result at `(b, n, l)`: the input there plus the sum of the position encoding `(n, l)` and the page table's
    row `n % 257` at lane `l`. -/
theorem result_at (c : Dev nD) (b : Fin 4) (n : Fin 9509) (l : Fin 1024) :
    result m c (ix3 b n l)
      = FloatOps.addf (m ((c : Thread nD τ).loc main_arg0) (ix3 b n l))
          (FloatOps.addf (m ((c : Thread nD τ).loc main_arg1) (ix3 (0 : Fin 1) n l))
            (gridRows (m ((c : Thread nD τ).loc main_arg2)) (m ((c : Thread nD τ).loc main_arg3))
              (ix2 (⟨n.val % 257, Nat.mod_lt _ (by decide)⟩ : Fin 257) l))) := by
  have h : result m c (ix3 b n l) = total (V m c main_v0) (V m c main_v1) (table m c) (ix3 n b l) :=
    transpose_apply _ _ _ _ _ (fun a => match a with
      | ⟨0, _⟩ => rfl
      | ⟨1, _⟩ => rfl
      | ⟨2, _⟩ => rfl)
  have hx : V m c main_v0 (ix3 n b l) = m ((c : Thread nD τ).loc main_arg0) (ix3 b n l) := by
    rw [entry_x]
    exact transpose_apply _ _ _ _ _ (fun a => match a with
      | ⟨0, _⟩ => rfl
      | ⟨1, _⟩ => rfl
      | ⟨2, _⟩ => rfl)
  have hp : V m c main_v1 (ix3 n (0 : Fin 1) l) = m ((c : Thread nD τ).loc main_arg1) (ix3 (0 : Fin 1) n l) := by
    rw [entry_p]
    exact transpose_apply _ _ _ _ _ (fun a => match a with
      | ⟨0, _⟩ => rfl
      | ⟨1, _⟩ => rfl
      | ⟨2, _⟩ => rfl)
  rw [h, ← hx, ← hp, ← entry_table]
  rfl

/-- The run leaves the result, and the arguments as launched. -/
theorem run_value : θ_run defs (onTc (τ := τ) (main (F := F))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h.1 c).2 main_v3 (Pipeline.mem_restRefs_of main_v3 (by decide) (by decide))).trans (exit_result m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).1 2).trans (((dats m 0 c).arrAt_in 2 rfl _).trans (V_main_arg2 m c)),
      ((h.1 c).1 3).trans (((dats m 0 c).arrAt_in 3 rfl _).trans (V_main_arg3 m c)),
      ((h.1 c).2 main_arg4 (Pipeline.mem_restRefs_of main_arg4 (by decide) (by decide))).trans (W_main_arg4 m (dats m) c)⟩)
    (run_main m ρ)

end Cert.KernelIdeal.Hand

end
-- ==== Proof.Reference.Grid.lean ====
/-
  The reference's grid encodings at an index.

  `grid_at`: row `n` of the 256 grid encodings is row encoding `n / 16` plus column encoding `n % 16`: the two gathers
  read the tables at the repeated and at the tiled counter, neither of which is negative, so that the wrap of a
  negative index does nothing. `tiled_at`: row `k` of the 37 copies is grid row `k % 256`.
-/
module

public import proofs.«01_k».proof.Proof.Gen.ReferenceIdeal.Read
public import Idealize.ShloMosaic.Lib.Routing.Ops
public import Idealize.ShloMosaic.Lib.Routing.OpsPair
public import Idealize.ShloMosaic.Lib.ValueIdxCore

@[expose] public section

set_option maxRecDepth 16384

noncomputable section

namespace Cert.Reference.Hand

open Cert.ReferenceIdeal Cert.ReferenceIdeal.Gen Cert.ReferenceIdeal.Read
open Idealize.ShloMosaic Idealize.ShloMosaic.ValueIdx Idealize.ShloMosaic.Routing

variable {F : FTy → Type} [FloatOps F]

/-- A small counter is not negative as a word. -/
theorem small_word (a : Nat) (h : a < 16) : (BitVec.ofNat 32 a).toNat < 2 ^ (32 - 1) := by
  rw [BitVec.toNat_ofNat]
  omega

/-- The index of the row gather at grid row `n`: `n / 16`. -/
theorem row_index (n : Fin 256) :
    val_main_v12 (F := F) (ix2 n (0 : Fin 1)) = BitVec.ofNat 32 (n.val / 16) := by
  have hv : val_main_v2 (F := F) (idx_main_v12 (ix2 n (0 : Fin 1))) = BitVec.ofNat 32 (n.val / 16) := by
    rw [val_main_v2_apply, val_main_v1_apply, val_main_v0_apply]
  rw [val_main_v12_apply, val_main_v11_apply, val_main_v8_apply, val_main_v7_apply, val_main_c_apply, hv]
  exact wrap_of_lt _ _ (small_word _ (by omega))

/-- The index of the column gather at grid row `n`: `n % 16`. -/
theorem col_index (n : Fin 256) :
    val_main_v19 (F := F) (ix2 n (0 : Fin 1)) = BitVec.ofNat 32 (n.val % 16) := by
  have hv : val_main_v6 (F := F) (idx_main_v19 (ix2 n (0 : Fin 1))) = BitVec.ofNat 32 (n.val % 16) := by
    rw [val_main_v6_apply, val_main_v5_apply, val_main_v4_apply, val_main_v3_apply]
    refine congrArg (BitVec.ofNat 32) ?_
    show 0 * 16 + n.val % 16 = n.val % 16
    omega
  rw [val_main_v19_apply, val_main_v18_apply, val_main_v15_apply, val_main_v14_apply, val_main_c_1_apply, hv]
  exact wrap_of_lt _ _ (small_word _ (by omega))

/-- Grid row `n`: row encoding `n / 16` plus column encoding `n % 16`. -/
theorem grid_at (r q : S16x1024.Idx → F .f32) (n : Fin 256) (l : Fin 1024) :
    val_main_v21 (F := F) r q (ix2 n l)
      = FloatOps.addf (r (ix2 (⟨n.val / 16, by omega⟩ : Fin 16) l)) (q (ix2 (⟨n.val % 16, by omega⟩ : Fin 16) l)) := by
  rw [val_main_v21_apply]
  refine congrArg₂ FloatOps.addf ?_ ?_
  · exact gather_row _ rfl rfl rfl rfl rfl r _ n l _ (row_index n) (by decide)
  · exact gather_row _ rfl rfl rfl rfl rfl q _ n l _ (col_index n) (by decide)

/-- Row `k` of the 37 copies of the grid: grid row `k % 256`. -/
theorem tiled_at (r q : S16x1024.Idx → F .f32) (k : Fin 9472) (l : Fin 1024) :
    val_main_v24 (F := F) r q (ix2 k l)
      = val_main_v21 (F := F) r q (ix2 (⟨k.val % 256, Nat.mod_lt _ (by decide)⟩ : Fin 256) l) := by
  rw [val_main_v24_apply, val_main_v23_apply, val_main_v22_apply]
  have hl := l.isLt
  refine congrArg _ (funext fun a => Fin.ext ?_)
  match a with
  | ⟨0, _⟩ =>
      show (((0 * 256 + (k.val * 1024 + l.val) / 1024 % 256) * 1 + 0) * 1024 + (k.val * 1024 + l.val) % 1024) / 1024 = k.val % 256
      omega
  | ⟨1, _⟩ =>
      show (((0 * 256 + (k.val * 1024 + l.val) / 1024 % 256) * 1 + 0) * 1024 + (k.val * 1024 + l.val) % 1024) % 1024 = l.val
      omega

end Cert.Reference.Hand

end
-- ==== Proof.Reference.Table.lean ====
/-
  The reference's scattered table at an index.

  `lands`: update `(k, l)` of the scatter lands at `(n, l')` exactly when `positions[k] = n` and `l = l'`.
  `scattered_at`: under the precondition's positions row `n` of the scattered array is grid row `n % 257` where that
  is below 256, and zero on the separators, `n % 257 = 256`: the kernel's page table at row `n % 257`.
-/
module

public import proofs.«01_k».proof.Proof.Reference.Grid
public import proofs.«01_k».proof.Proof.KernelIdeal.Block
public import Idealize.ShloMosaic.Lib.Routing.OpsSet

@[expose] public section

set_option maxRecDepth 16384

noncomputable section

namespace Cert.Reference.Hand

open Cert.ReferenceIdeal Cert.ReferenceIdeal.Gen Cert.ReferenceIdeal.Read
open Idealize.ShloMosaic Idealize.ShloMosaic.ValueIdx Idealize.ShloMosaic.Routing
open Cert.KernelIdeal.Hand (gridRows)

variable {F : FTy → Type} [FloatOps F]

/-- The scatter of whole rows. -/
abbrev rowScatter : ScatterDims S9509x1024 S9472x1 S9472x1024 := scatter_S9509x1024_S9472x1_S9472x1024_1_0_0_1

theorem start_row (k : Fin 9472) (l : Fin 1024) (idx : IVec S9472x1 32) :
    rowScatter.start (ix2 k l) idx 0 = (idx (ix2 k (0 : Fin 1))).toInt := by
  have hm : (0 : Fin 2) ∈ rowScatter.scatterDimsToOperandDims := List.mem_singleton.2 rfl
  unfold ScatterDims.start
  rw [dif_pos hm]
  refine congrArg (fun j => (idx j).toInt) (funext fun a => ?_)
  match a with
  | ⟨0, _⟩ => rfl
  | ⟨1, _⟩ => rfl

theorem start_lane (k : Fin 9472) (l : Fin 1024) (idx : IVec S9472x1 32) : rowScatter.start (ix2 k l) idx 1 = 0 := by
  unfold ScatterDims.start
  exact dif_neg (by decide)

theorem window_row (k : Fin 9472) (l : Fin 1024) : rowScatter.window (ix2 k l) 0 = 0 := by
  unfold ScatterDims.window
  exact dif_neg (by decide)

theorem window_lane (k : Fin 9472) (l : Fin 1024) : rowScatter.window (ix2 k l) 1 = l.val := by
  unfold ScatterDims.window
  rw [dif_pos (by decide)]
  rfl

/-- Update `(k, l)` lands at `(n, l')` exactly when its index word, read signed, is `n` and the lanes agree. -/
theorem lands (k : Fin 9472) (l : Fin 1024) (idx : IVec S9472x1 32) (n : Fin 9509) (l' : Fin 1024) :
    rowScatter.resultIdx? (ix2 k l) idx = some (ix2 n l')
      ↔ (idx (ix2 k (0 : Fin 1))).toInt = (n.val : Int) ∧ l = l' := by
  rw [resultIdx?_ix2, start_row, start_lane, window_row, window_lane]
  constructor
  · rintro ⟨h, h'⟩
    exact ⟨by omega, Fin.ext (by omega)⟩
  · rintro ⟨h, rfl⟩
    exact ⟨by omega, by omega⟩

variable (x4 : S9472.Idx → BitVec 32) (hx : ∀ k : Fin 9472, x4 (ix1 k) = BitVec.ofNat 32 (k.val + k.val / 256))

include hx

/-- The scatter's index at row `k`: not negative, so the wrap leaves `k + k / 256`. -/
theorem scatter_index (k : Fin 9472) :
    (val_main_v31 (F := F) x4 (ix2 k (0 : Fin 1))).toInt = ((k.val + k.val / 256 : Nat) : Int) := by
  have hk := k.isLt
  have hv : x4 (idx_main_v31 (ix2 k (0 : Fin 1))) = BitVec.ofNat 32 (k.val + k.val / 256) := by
    rw [← hx k]
    refine congrArg x4 (funext fun a => Fin.ext ?_)
    match a with
    | ⟨0, _⟩ => rfl
  have hn : (BitVec.ofNat 32 (k.val + k.val / 256)).toNat = k.val + k.val / 256 := by
    rw [BitVec.toNat_ofNat]; omega
  rw [val_main_v31_apply, val_main_v30_apply, val_main_v27_apply, val_main_v26_apply, val_main_c_3_apply, hv,
    wrap_of_lt _ _ (by rw [hn]; omega), BitVec.toInt_eq_toNat_of_lt (by rw [hn]; omega), hn]

/-- Row `n` of the scattered array is the page table's row `n % 257`. -/
theorem scattered_at (r q : S16x1024.Idx → F .f32) (n : Fin 9509) (l : Fin 1024) :
    val_main_v32 (F := F) r q x4 (ix2 n l)
      = gridRows r q (ix2 (⟨n.val % 257, Nat.mod_lt _ (by decide)⟩ : Fin 257) l) := by
  have hn := n.isLt
  unfold val_main_v32
  by_cases h : n.val % 257 < 256
  · -- the one update that lands is row `256 · (n / 257) + n % 257`
    refine scatter_set_hit rowScatter _ _ _ _ _ (fun k hk => ?_)
      (ix2 (⟨n.val / 257 * 256 + n.val % 257, by omega⟩ : Fin 9472) l) ?_
    · obtain ⟨a, b, rfl⟩ : ∃ (a : Fin 9472) (b : Fin 1024), k = ix2 a b := ⟨k 0, k 1, eq_ix2 k⟩
      obtain ⟨h1, h2⟩ := (lands _ _ _ _ _).mp hk
      rw [scatter_index (F := F) x4 hx] at h1
      have hk0 : a.val + a.val / 256 = n.val := by exact_mod_cast h1
      rw [tiled_at, grid_at]
      unfold gridRows
      rw [dif_pos (show n.val % 257 < 256 from h)]
      have hr : a.val % 256 = n.val % 257 := by omega
      refine congrArg₂ FloatOps.addf (congrArg r (congrArg₂ ix2 (Fin.ext ?_) h2)) (congrArg q (congrArg₂ ix2 (Fin.ext ?_) h2))
      · show a.val % 256 / 16 = n.val % 257 / 16
        rw [hr]
      · show a.val % 256 % 16 = n.val % 257 % 16
        rw [hr]
    · refine (lands _ _ _ _ _).mpr ⟨?_, rfl⟩
      rw [scatter_index (F := F) x4 hx]
      have e : n.val / 257 * 256 + n.val % 257 + (n.val / 257 * 256 + n.val % 257) / 256 = n.val := by omega
      exact_mod_cast e
  · -- no update lands on a separator
    refine (scatter_set_miss rowScatter _ _ _ _ (fun k hk => ?_)).trans ?_
    · obtain ⟨a, b, rfl⟩ : ∃ (a : Fin 9472) (b : Fin 1024), k = ix2 a b := ⟨k 0, k 1, eq_ix2 k⟩
      obtain ⟨h1, -⟩ := (lands _ _ _ _ _).mp hk
      rw [scatter_index (F := F) x4 hx] at h1
      have hk0 : a.val + a.val / 256 = n.val := by exact_mod_cast h1
      omega
    · rw [val_main_v25_apply, val_main_cst_apply]
      unfold gridRows
      rw [dif_neg (show ¬ n.val % 257 < 256 from h)]

end Cert.Reference.Hand

end
-- ==== Proof.Reference.Value.lean ====
/-
  The reference's result at an index.

  `result_at`: under the precondition the result at `(b, n, l)` is the input there plus the position encoding
  `(n, l)` plus the page table's row `n % 257` at lane `l`, summed in that order.
-/
module

public import proofs.«01_k».proof.Proof.Reference.Table

@[expose] public section

set_option maxRecDepth 16384

noncomputable section

namespace Cert.Reference.Hand

open Cert.ReferenceIdeal Cert.ReferenceIdeal.Gen Cert.ReferenceIdeal.Read
open Idealize.ShloMosaic Idealize.ShloMosaic.ValueIdx
open Cert.KernelIdeal.Hand (gridRows)

variable {F : FTy → Type} [FloatOps F]

/-- The result at `(b, n, l)`, the positions being `k + k / 256`. -/
theorem result_at (x : S4x9509x1024.Idx → F .f32) (p : S1x9509x1024.Idx → F .f32) (r q : S16x1024.Idx → F .f32)
    (s : IVec S9472 32) (hs : ∀ k : Fin 9472, s (ix1 k) = BitVec.ofNat 32 (k.val + k.val / 256))
    (b : Fin 4) (n : Fin 9509) (l : Fin 1024) :
    val_main_v37 (F := F) x p r q s (ix3 b n l)
      = FloatOps.addf (FloatOps.addf (x (ix3 b n l)) (p (ix3 (0 : Fin 1) n l)))
          (gridRows r q (ix2 (⟨n.val % 257, Nat.mod_lt _ (by decide)⟩ : Fin 257) l)) := by
  have hp : idx_main_v34 (ix3 b n l) = ix3 (0 : Fin 1) n l := funext fun a => match a with
    | ⟨0, _⟩ => rfl
    | ⟨1, _⟩ => rfl
    | ⟨2, _⟩ => rfl
  have hg : idx_main_v33 (idx_main_v36 (ix3 b n l)) = ix2 n l := funext fun a => match a with
    | ⟨0, _⟩ => rfl
    | ⟨1, _⟩ => rfl
  rw [val_main_v37_apply, val_main_v35_apply, val_main_v34_apply, val_main_v36_apply, val_main_v33_apply, hp, hg,
    scattered_at s hs r q n l]

end Cert.Reference.Hand

end
-- ==== Proof.Reference.Positions.lean ====
/-
  The precondition, read: `as_set_up` says that `positions[k] = k + k // 256` for every `k` — row `k % 256` of page
  `k / 256`, a page being 256 rows and a separator.

  `floor_word` is the floored division by 256 as the program spells it (a signed division, corrected by one where the
  signs differ and the remainder is not zero), at a word that is not negative. `positions_at` is the precondition at
  an index.
-/
module

public import proofs.«01_k».proof.Defs
public import proofs.«01_k».proof.Proof.Gen.Pre_as_set_up
public import Idealize.ShloMosaic.Lib.ValueIdxCore
public import Idealize.ShloMosaic.Lib.Pipeline.Value
public import Idealize.ShloMosaic.Lib.WordCmp

@[expose] public section

set_option maxRecDepth 16384

noncomputable section

namespace Cert.Reference.Hand

open Idealize.ShloMosaic Idealize.ShloMosaic.ValueIdx

/-- A word below `2 ^ 31` divided by 256, signed, is the quotient of the numbers. -/
theorem div_word (n : Nat) (hn : n < 2 ^ 31) :
    IntOp.divsi .host (BitVec.ofNat 32 n) 256#32 = BitVec.ofNat 32 (n / 256) := by
  have hm : (BitVec.ofNat 32 n).msb = false := by
    rw [BitVec.msb_eq_decide, BitVec.toNat_ofNat]
    exact decide_eq_false (by omega)
  have hc : ¬ IntOp.SDivCorner (BitVec.ofNat 32 n) 256#32 := by
    rintro (h | ⟨-, h⟩)
    · exact absurd h (by decide)
    · exact absurd h (by decide)
  unfold IntOp.divsi
  rw [if_neg hc, BitVec.sdiv_eq, hm, show (256#32 : BitVec 32).msb = false from by decide]
  apply BitVec.eq_of_toNat_eq
  show ((BitVec.ofNat 32 n).udiv 256#32).toNat = _
  rw [BitVec.udiv_eq, BitVec.toNat_udiv, BitVec.toNat_ofNat, BitVec.toNat_ofNat, BitVec.toNat_ofNat,
    show 256 % 2 ^ 32 = 256 from rfl, Nat.mod_eq_of_lt (show n < 2 ^ 32 by omega)]
  omega

/-- jax's floored division by 256 at a word that is not negative. -/
theorem floor_word (n : Nat) (hn : n < 2 ^ 31) (s s' : BitVec 32)
    (hs' : s' = if (256#32 : BitVec 32) = 0 then 0 else if (256#32 : BitVec 32).msb then -1 else 1)
    (hs : s = if BitVec.ofNat 32 n = 0 then 0 else if (BitVec.ofNat 32 n).msb then -1 else 1) :
    Scalar.select (IntOp.andi (IntOp.cmpi .ne s s')
        (IntOp.cmpi .ne (IntOp.remsi .host (BitVec.ofNat 32 n) 256#32) 0#32))
      (IntOp.subi (IntOp.divsi .host (BitVec.ofNat 32 n) 256#32) 1#32)
      (IntOp.divsi .host (BitVec.ofNat 32 n) 256#32) = BitVec.ofNat 32 (n / 256) := by
  have hm : (BitVec.ofNat 32 n).msb = false := by
    rw [BitVec.msb_eq_decide, BitVec.toNat_ofNat]
    exact decide_eq_false (by omega)
  rw [div_word n hn]
  have h1 : s' = 1#32 := hs'.trans (by decide)
  subst h1
  by_cases h : BitVec.ofNat 32 n = 0
  · have h0 : n = 0 := by
      have := congrArg BitVec.toNat h
      rw [BitVec.toNat_ofNat] at this
      change n % 2 ^ 32 = 0 at this
      omega
    subst h0
    subst hs
    decide
  · rw [if_neg h, hm] at hs
    subst hs
    have e : IntOp.cmpi .ne (if false = true then -1 else 1 : BitVec 32) 1#32 = 0#1 := by decide
    rw [e]
    have e2 : ∀ b : BitVec 1, IntOp.andi 0#1 b = 0#1 := by decide
    rw [e2]
    rfl

variable {F : FTy → Type} [FloatOps F]

/-- Under the precondition position `k` is `k + k / 256`. -/
theorem positions_at (a0 : FVec F Pre_as_set_up.S4x9509x1024 .f32) (a1 : FVec F Pre_as_set_up.S1x9509x1024 .f32)
    (a2 a3 : FVec F Pre_as_set_up.S16x1024 .f32) (a4 : IVec Pre_as_set_up.S9472 32)
    (h : Pre_as_set_up.fn (F := F) a0 a1 a2 a3 a4 = fun _ => 1#1) (k : Fin 9472) :
    a4 (ix1 k) = BitVec.ofNat 32 (k.val + k.val / 256) := by
  have hk := congrFun h (ix1 k)
  have hw := floor_word k.val (by omega) _ _ rfl rfl
  have e : Pre_as_set_up.fn_floor_divide (F := F) (iotaInDim Pre_as_set_up.S9472 32 0) (constantI Pre_as_set_up.S_ 32 256#32) (ix1 k)
      = BitVec.ofNat 32 (k.val / 256) := by
    refine Eq.trans ?_ hw
    rfl
  have hk' : IntOp.cmpi .eq (a4 (ix1 k)) (IntOp.addi (BitVec.ofNat 32 k.val) (BitVec.ofNat 32 (k.val / 256))) = 1#1 := by
    rw [← e]; exact hk
  rw [WordCmp.cmpi_eq_eq] at hk'
  have hd : a4 (ix1 k) = IntOp.addi (BitVec.ofNat 32 k.val) (BitVec.ofNat 32 (k.val / 256)) := by
    by_contra hne
    rw [decide_eq_false hne] at hk'
    exact absurd hk' (by decide)
  rw [hd]
  exact (BitVec.ofNat_add k.val (k.val / 256)).symm

end Cert.Reference.Hand

end
-- ==== Proof.Equation.lean ====
/-
  The equation: at the ideal values the kernel's result is the reference's.

  Element `(b, n, l)` is `x + (p + g)` in the kernel and `(x + p) + g` in the reference, for the same input `x`, position
  encoding `p` and page-table element `g`; addition of extended reals is associative.
-/
module

public import proofs.«01_k».proof.Proof.KernelIdeal.Value
public import proofs.«01_k».proof.Proof.Reference.Value
public import proofs.«01_k».proof.Proof.Reference.Positions

@[expose] public section

set_option maxRecDepth 16384

noncomputable section

namespace Cert.Equation

open Idealize.ShloMosaic hiding ix2 ix3
open Idealize.ShloMosaic.TcCoe Idealize.ShloMosaic.ValueIdx
open Cert.KernelIdeal

/-- The reference's result on the kernel's arguments is the kernel's result, the positions being the set-up's. -/
theorem results_agree (m : (ℓ : Loc nD τ sig) → Buf (Elt Ideal) ℓ) (c : Dev nD)
    (hpre : Cert.Pre_as_set_up.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      = fun _ => 1#1) :
    Cert.ReferenceIdeal.Read.val_main_v37 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      = Cert.KernelIdeal.Hand.result (F := Ideal) m c := by
  have hs := Cert.Reference.Hand.positions_at (F := Ideal) _ _ _ _ _ hpre
  funext i
  obtain ⟨b, n, l, rfl⟩ : ∃ (b : Fin 4) (n : Fin 9509) (l : Fin 1024), i = ix3 b n l := ⟨i 0, i 1, i 2, ValueIdx.eq_ix3 i⟩
  refine (Cert.Reference.Hand.result_at (F := Ideal) _ _ _ _ _ hs b n l).trans
    (Eq.trans ?_ (Cert.KernelIdeal.Hand.result_at (F := Ideal) m c b n l).symm)
  exact add_assoc (G := EReal) _ _ _

end Cert.Equation

end
-- ==== Proof.lean ====
/-
  The certificate: the frames of the kernel at words and at ideal values and of the reference, that the idealization
  keeps the kernel's own operations, and that kernel and reference agree at the ideal values.

  The kernel's runs are Proof/Kernel/Run.lean and Proof/KernelIdeal/Run.lean, its result Proof/KernelIdeal/Value.lean,
  the reference's result Proof/Reference/Value.lean, their equality Proof/Equation.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_as_set_up
public import proofs.«01_k».proof.Proof.Kernel.Run
public import proofs.«01_k».proof.Proof.Equation
public import Idealize.ShloMosaic.Adequacy
public import Idealize.ShloMosaic.Init

@[expose] public section

noncomputable section

namespace Cert.Proof

open Idealize.ShloMosaic Idealize.SL.Sem

/-- The kernel at words runs, leaves its arguments and ends with every counter at zero. -/
theorem frame_kernel : Cert.quiescent_Kernel := fun m g _ => Cert.Kernel.Hand.run_frame (F := Bits) m g

/-- So does the kernel at the ideal values. -/
theorem frame_ideal : Cert.quiescent_KernelIdeal := fun m g _ => Cert.KernelIdeal.Hand.run_frame (F := Ideal) m g

/-- The reference, which has no semaphore, runs and leaves its arguments. -/
theorem frame_reference : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- From memories agreeing on the arguments, the positions being the set-up's, both leave the same result. -/
theorem agree : Cert.algebraic_KernelIdeal_ReferenceIdeal_pre_as_set_up := fun m g m' g' hpre harg =>
  ⟨fun c => Cert.KernelIdeal.Hand.result (F := Ideal) m c,
    Cert.KernelIdeal.Hand.run_value (F := Ideal) m g,
    (θ_run _ _ _).mono (fun r h c => ⟨by
        obtain ⟨h0, h1, h2, h3, h4⟩ := harg c
        refine ((h c).1.trans (Cert.ReferenceIdeal.Read.val_main_v37_eq (F := Ideal) _ _ _ _ _)).trans ?_
        rw [h0, h1, h2, h3, h4]
        exact Cert.Equation.results_agree m c (hpre c), (h c).2⟩)
      (Cert.ReferenceIdeal.Value.run (F := Ideal) m' g')⟩

/-- Everything claimed. -/
theorem claim : Cert.Claim :=
  ⟨Cert.Kernel.Gen.facts, Cert.KernelIdeal.Gen.facts, Cert.ReferenceIdeal.Gen.facts, Cert.Pre_as_set_up.Gen.facts,
    frame_kernel, frame_ideal, fun m g _ => frame_ideal m g trivial, frame_reference, fun m g _ => frame_reference m g trivial,
    trivial, agree⟩

end Cert.Proof

end
